-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)) (v1 : (c : Dev Cert.Kernel.nD) → Buf (Elt Bits) ((c.tc : Thread Cert.Kernel.nD Cert.Kernel.τ).loc Cert.Kernel.main_v3)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_v3) = v1 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0_0) = v0 c
          ∧ r.2.mem ((c.tc : Thread Cert.Reference.nD Cert.Reference.τ).loc Cert.Reference.main_v0_1) = v1 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hReference : Cert.Reference.Facts),
    quiescent_Kernel (hKernel := hKernel)
    ∧ quiescent_Reference (hReference := hReference)
    ∧ bitexact_Kernel_Reference (hKernel := hKernel) (hReference := hReference)
-- ==== Kernel.lean ====
abbrev S3x3072x2048 : Shape := ⟨3, ![3, 3072, 2048]⟩
abbrev S9216x2048 : Shape := ⟨2, ![9216, 2048]⟩
abbrev S9216x1 : Shape := ⟨2, ![9216, 1]⟩
abbrev S9216x1024 : Shape := ⟨2, ![9216, 1024]⟩
abbrev S256x2048 : Shape := ⟨2, ![256, 2048]⟩
abbrev S256x1 : Shape := ⟨2, ![256, 1]⟩
abbrev S256x1024 : Shape := ⟨2, ![256, 1024]⟩
abbrev S256 : Shape := ⟨1, ![256]⟩
abbrev S3x3072x1 : Shape := ⟨3, ![3, 3072, 1]⟩
abbrev S3x3072x1024 : Shape := ⟨3, ![3, 3072, 1024]⟩

abbrev nBuf : Space → Nat
  | .hbm => 6
  | .vmem => 6
  | .smem => 0
  | _ => 0

abbrev bufTy : (tb : Table) → Fin (tcTables nBuf tb) → BufTy
  | .hbm, ⟨0, _⟩ => ⟨S3x3072x2048, .bf16⟩
  | .hbm, ⟨1, _⟩ => ⟨S9216x2048, .bf16⟩
  | .hbm, ⟨2, _⟩ => ⟨S9216x1, .f32⟩
  | .hbm, ⟨3, _⟩ => ⟨S9216x1024, .fp8e4m3⟩
  | .hbm, ⟨4, _⟩ => ⟨S3x3072x1, .f32⟩
  | .hbm, ⟨5, _⟩ => ⟨S3x3072x1024, .fp8e4m3⟩
  | .local _ .vmem, ⟨0, _⟩ => ⟨S256x2048, .bf16⟩
  | .local _ .vmem, ⟨1, _⟩ => ⟨S256x2048, .bf16⟩
  | .local _ .vmem, ⟨2, _⟩ => ⟨S256x1, .f32⟩
  | .local _ .vmem, ⟨3, _⟩ => ⟨S256x1, .f32⟩
  | .local _ .vmem, ⟨4, _⟩ => ⟨S256x1024, .fp8e4m3⟩
  | .local _ .vmem, ⟨5, _⟩ => ⟨S256x1024, .fp8e4m3⟩
  | _, _ => ⟨S3x3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S3x3072x2048 : Shape := ⟨3, ![3, 3072, 2048]⟩
abbrev S3x3072x1 : Shape := ⟨3, ![3, 3072, 1]⟩
abbrev S3x3072x1024 : Shape := ⟨3, ![3, 3072, 1024]⟩
abbrev S3x3072 : Shape := ⟨2, ![3, 3072]⟩

abbrev nBuf : Space → Nat
  | .hbm => 3
  | .vmem => 3
  | .smem => 0
  | _ => 0

abbrev bufTy : (tb : Table) → Fin (tcTables nBuf tb) → BufTy
  | .hbm, ⟨0, _⟩ => ⟨S3x3072x2048, .bf16⟩
  | .hbm, ⟨1, _⟩ => ⟨S3x3072x1, .f32⟩
  | .hbm, ⟨2, _⟩ => ⟨S3x3072x1024, .fp8e4m3⟩
  | .local _ .vmem, ⟨0, _⟩ => ⟨S3x3072x2048, .bf16⟩
  | .local _ .vmem, ⟨1, _⟩ => ⟨S3x3072x1, .f32⟩
  | .local _ .vmem, ⟨2, _⟩ => ⟨S3x3072x1024, .fp8e4m3⟩
  | _, _ => ⟨S3x3072x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S3x3072x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3072x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Scalar.lean ====
/-
  THE MATHEMATICS OF ONE TOKEN: SwiGLU of a row of 2048 bf16 numbers and its quantisation to fp8 E4M3 with a power-of-two
  scale, as scalar functions on bit patterns. The kernel and the reference are both read down to these.
-/
module

public import Idealize.ShloMosaic.PureOps.BitExact
public import Idealize.ShloMosaic.PureOps.BitExact.Laws

@[expose] public section

noncomputable section

namespace Cert.Quant

open Idealize.ShloMosaic

/-- An f32 constant given by its word. -/
def const32 (w : BitVec 32) : Bits .f32 := FloatOps.ofBits .f32 w

/-- `1.0`, `0.0`, `448.0`, `-448.0` and the f32 number nearest `1/448`. -/
def one : Bits .f32 := const32 0x3F800000#32
/-- The float 0. -/
def zero : Bits .f32 := const32 0x00000000#32
/-- The float 448. -/
def fp8Max : Bits .f32 := const32 0x43E00000#32
/-- The float -448. -/
def fp8Min : Bits .f32 := const32 0xC3E00000#32
/-- The float nearest 1/448. -/
def fp8MaxInv : Bits .f32 := const32 0x3B124925#32

/-- A bf16 number as f32. -/
def widen (x : Bits .bf16) : Bits .f32 := FloatOps.extf .f32 (by decide) x

/-- `1 / (1 + exp (-x))`. -/
def sigmoid (x : Bits .f32) : Bits .f32 :=
  FloatOps.divf one (FloatOps.addf one (FloatOps.exp (FloatOps.subf zero x)))

/-- `gate * sigmoid gate * up`, on f32 numbers widened from bf16. -/
def swiglu (gate up : Bits .bf16) : Bits .f32 :=
  FloatOps.mulf (FloatOps.mulf (widen gate) (sigmoid (widen gate))) (widen up)

/-- The greatest magnitude among 1024 numbers (from minus infinity): the token's `amax`. The order of the entries plays
    no role, `maximumf` being commutative and associative. -/
def amax (h : Fin 1024 → Bits .f32) : Bits .f32 :=
  (Finset.univ : Finset (Fin 1024)).fold FloatOps.maximumf (const32 0xFF800000#32) (fun k => FloatOps.absf (h k))

/-- The word of an f32 number, a subnormal taken to the zero of its sign. -/
def normalWord (x : Bits .f32) : BitVec 32 :=
  BitOps.toBits (F := Bits) (φ := .f32) (FloatOps.ofBits .f32
    (Scalar.select (IntOp.cmpi .eq (IntOp.andi (BitOps.toBits x) 2139095040#32) 0#32)
      (IntOp.andi (BitOps.toBits x) 2147483648#32) (BitOps.toBits x)))

/-- The sign bit, the biased exponent and the mantissa of an f32 number. -/
def signBit (x : Bits .f32) : BitVec 32 := IntOp.andi (normalWord x) 2147483648#32
/-- The biased exponent of the (normalised) float's word. -/
def biased (x : Bits .f32) : BitVec 32 := IntOp.andi (IntOp.shrui .vector (normalWord x) 23#32) 255#32
/-- The mantissa bits of the (normalised) float's word. -/
def mantissa (x : Bits .f32) : BitVec 32 := IntOp.andi (normalWord x) 8388607#32

/-- The exponent `frexp` returns: `x = m * 2 ^ e` with `m` in `[1/2, 1)`; zero for a zero, an infinity or a NaN. -/
def frexpExponent (x : Bits .f32) : BitVec 32 :=
  Scalar.select (IntOp.ori (IntOp.cmpi .eq (biased x) 255#32) (IntOp.cmpi .eq (biased x) 0#32)) 0#32
    (IntOp.subi (biased x) 126#32)

/-- `ldexp x e`: the exponent field of `x` moved by `e` clamped to `[-512, 512]`, a zero where it falls below the
    field, an infinity where it passes it. -/
def movedExponent (x : Bits .f32) (e : BitVec 32) : BitVec 32 :=
  IntOp.addi (biased x) (IntOp.minsi (IntOp.maxsi e 4294966784#32) 512#32)
/-- `x` times two to the `e`, as the programs compute it. -/
def ldexp (x : Bits .f32) (e : BitVec 32) : Bits .f32 :=
  FloatOps.ofBits .f32
    (Scalar.select (IntOp.cmpi .eq (biased x) 255#32) (normalWord x)
      (Scalar.select (IntOp.cmpi .eq (biased x) 0#32) (signBit x)
        (Scalar.select (IntOp.cmpi .sle (movedExponent x e) 0#32) (signBit x)
          (Scalar.select (IntOp.cmpi .sge (movedExponent x e) 255#32) (IntOp.ori (signBit x) 2139095040#32)
            (IntOp.ori (IntOp.ori (signBit x) (IntOp.shli .vector (movedExponent x e) 23#32)) (mantissa x))))))

/-- The exponent of a token's scale, from its `amax`: that of `amax / 448`, zero for a token of zeros. -/
def scaleExponent (a : Bits .f32) : BitVec 32 :=
  Scalar.select (FloatOps.cmpf .oeq a zero) 0#32 (frexpExponent (FloatOps.mulf a fp8MaxInv))

/-- The scale `2 ^ e` and its inverse `2 ^ (-e)`. -/
def scale (a : Bits .f32) : Bits .f32 := ldexp one (scaleExponent a)
/-- The reciprocal of the scale, `2^(-e)`. -/
def invScale (a : Bits .f32) : Bits .f32 := ldexp one (IntOp.subi 0#32 (scaleExponent a))

/-- The fp8 E4M3 code of `h` under the scale of `a`: `h * 2 ^ (-e)` clipped to `[-448, 448]` and rounded. -/
def code (h a : Bits .f32) : Bits .fp8e4m3 :=
  FloatOps.truncf .fp8e4m3 (by decide)
    (FloatOps.minimumf fp8Max (FloatOps.maximumf fp8Min (FloatOps.mulf h (invScale a))))

/-- Of a token's 2048 numbers the first 1024 are the gate and the last 1024 the up projection. -/
def hidden (row : Fin 2048 → Bits .bf16) (k : Fin 1024) : Bits .f32 :=
  swiglu (row ⟨k.val, by omega⟩) (row ⟨1024 + k.val, by omega⟩)

/-- A token's scale, and its code at `k`. -/
def tokenScale (row : Fin 2048 → Bits .bf16) : Bits .f32 := scale (amax (hidden row))
/-- A token's code at column `k`. -/
def tokenCode (row : Fin 2048 → Bits .bf16) (k : Fin 1024) : Bits .fp8e4m3 := code (hidden row k) (amax (hidden row))

end Cert.Quant

end
-- ==== Proof.KernelBlock.lean ====
/-
  WHAT ONE BLOCK OF THE KERNEL COMPUTES: from a block of 256 tokens, row by row, the token's scale and its codes
  (Scalar.lean), whatever the other rows hold.
-/
module

public import proofs.«01_k».proof.Proof.Gen.Kernel.Frame
public import proofs.«01_k».proof.Proof.Scalar
public import Idealize.ShloMosaic.PureOps.BitExact.Laws
public import Idealize.ShloMosaic.PureOps.Reduce
public import Idealize.ShloMosaic.Lib.Pipeline.Value
public import Idealize.ShloMosaic.Lib.ValueIdx
public import Idealize.ShloMosaic.Lib.ValueLayoutCasts

@[expose] public section

noncomputable section

namespace Cert.Kernel.Block

open Cert.Kernel Cert.Kernel.Gen Cert.Quant
open Idealize.ShloMosaic Idealize.ShloMosaic.ValueIdx

/-- The SwiGLU payload, element by element. -/
theorem pay2_apply (g u : Vec Bits S256x1024 .bf16) (i : S256x1024.Idx) : k0_pay2 g u i = swiglu (g i) (u i) := by
  unfold k0_pay2
  rw [shapeCast_self, shapeCast_self]
  rfl

/-- A row maximum over axis 1, at row `r`: the fold of `maximumf` over the row's entries. -/
theorem rowMax_apply (x : FVec Bits S256x1024 .f32) (hφ : FKind.Formats .f32)
    (hacc : (0xFF800000#32 : BitVec FTy.f32.bits) = FKind.maximumf.neutral .f32 hφ) (r : Fin 256) :
    multiReduction (F := Bits) .maximumf [1] S256 x 0xFF800000#32 reduces_S256x1024_S256 hφ hacc (ix1 r)
      = (Finset.univ : Finset (Fin 1024)).fold FloatOps.maximumf (const32 0xFF800000#32) (fun k => x (ix2 r k)) := by
  rw [multiReduction_maximumf_eq_fold]
  refine (Shape.Reduces.fold_filter_drop_single (s := S256x1024) (t := S256) (a := (1 : Fin S256x1024.rank)) reduces_S256x1024_S256
    FloatOps.maximumf (FloatOps.ofBits .f32 0xFF800000#32) x (ix1 r)).trans ?_
  refine congrArg (Finset.fold FloatOps.maximumf (const32 0xFF800000#32) · Finset.univ) (funext fun k => congrArg x (funext fun c => Fin.ext ?_))
  match c with
  | ⟨0, _⟩ => rfl
  | ⟨1, _⟩ => rfl

/-- The row maximum of the magnitudes, at row `r`. -/
theorem pay3_apply (g u : Vec Bits S256x1024 .bf16) (r : Fin 256) (z : Fin 1) :
    k0_pay3 g u (ix2 r z) = amax (fun k => swiglu (g (ix2 r k)) (u (ix2 r k))) := by
  unfold k0_pay3
  refine (shapeCast_a_a1_apply _ shapeCasts_S256_S256x1 r z).trans ?_
  refine (rowMax_apply _ _ _ r).trans ?_
  unfold amax
  refine congrArg (Finset.fold FloatOps.maximumf (const32 0xFF800000#32) · Finset.univ) (funext fun k => ?_)
  exact congrArg FloatOps.absf (pay2_apply g u (ix2 r k))

/-- The exponent payload at a row is the exponent of the scale of that row's `amax`. -/
theorem pay10_apply (x : Vec Bits S256x2048 .bf16) (i : S256x1.Idx) :
    k0_pay10 (k0_pay26 x) (k0_pay27 x) (k0_pay28 x) (k0_pay29 x) i = scaleExponent (k0_pay26 x i) := rfl

/-- The scale's payload at a row. -/
theorem pay18_apply (x : Vec Bits S256x2048 .bf16) (i : S256x1.Idx) :
    k0_pay18 (F := Bits) (k0_pay11 (F := Bits)) (k0_pay12 (F := Bits)) (k0_pay13 (F := Bits)) (k0_pay14 (F := Bits))
      (k0_pay15 (F := Bits)) (k0_pay16 (F := Bits)) (k0_pay17 (k0_pay26 x) (k0_pay27 x) (k0_pay28 x) (k0_pay29 x)) i
      = scale (k0_pay26 x i) := rfl

/-- The codes' payload at row `r`, column `k`, of any hidden vector and row maxima. -/
theorem pay1_apply (h : FVec Bits S256x1024 .f32) (x : Vec Bits S256x2048 .bf16) (r : Fin 256) (k : Fin 1024) :
    k0_pay1 h (k0_pay19 (k0_pay10 (k0_pay26 x) (k0_pay27 x) (k0_pay28 x) (k0_pay29 x))) (k0_pay20 (F := Bits))
      (k0_pay21 (F := Bits)) (k0_pay22 (F := Bits)) (k0_pay23 (F := Bits)) (k0_pay24 (F := Bits)) (k0_pay25 (F := Bits)) (ix2 r k)
      = code (h (ix2 r k)) (k0_pay26 x (ix2 r 0)) := by
  have hb : ∀ v : FVec Bits S256x1 .f32, broadcastTo S256x1024 v broadcasts_S256x1_S256x1024 (ix2 r k) = v (ix2 r 0) := by
    intro v
    refine broadcastTo_apply v _ _ _ fun a => ?_
    match a with
    | ⟨0, _⟩ => rfl
    | ⟨1, _⟩ => rfl
  unfold k0_pay1
  show FloatOps.truncf .fp8e4m3 _ (FloatOps.minimumf _ (FloatOps.maximumf _ (FloatOps.mulf _ (broadcastTo S256x1024 _ _ (ix2 r k))))) = _
  rw [hb]
  rfl

/-- The two loads of the body are the gate and the up half of the block. -/
theorem ld_gate (x : Vec Bits S256x2048 .bf16) (r : Fin 256) (k : Fin 1024) :
    View.ld x r0_0 (ix2 r k) = x (ix2 r ⟨k.val, by omega⟩) := by
  refine congrArg x (funext fun a => Fin.ext ?_)
  match a with
  | ⟨0, _⟩ => show 0 + 1 * r.val = r.val; omega
  | ⟨1, _⟩ => show 0 + 1 * k.val = k.val; omega
/-- The load of the block's right half, at `(r, k)`: the block at column `1024 + k`. -/
theorem ld_up (x : Vec Bits S256x2048 .bf16) (r : Fin 256) (k : Fin 1024) :
    View.ld x r0_1 (ix2 r k) = x (ix2 r ⟨1024 + k.val, by omega⟩) := by
  refine congrArg x (funext fun a => Fin.ext ?_)
  match a with
  | ⟨0, _⟩ => show 0 + 1 * r.val = r.val; omega
  | ⟨1, _⟩ => show 1024 + 1 * k.val = 1024 + k.val; omega

/-- The row maxima the body computes are the tokens' `amax`. -/
theorem pay26_apply (x : Vec Bits S256x2048 .bf16) (r : Fin 256) (z : Fin 1) :
    k0_pay26 x (ix2 r z) = amax (hidden fun k => x (ix2 r k)) := by
  unfold k0_pay26
  rw [pay3_apply]
  refine congrArg amax (funext fun k => ?_)
  rw [ld_gate, ld_up]; rfl

/-- The offsets `[0, 0]` are zero on every axis. -/
theorem zero2 : (![0, 0] : Fin 2 → Nat) = fun _ => 0 := funext fun a => by fin_cases a <;> rfl

/-- THE SCALES the body leaves: row `r` holds token `r`'s scale. -/
theorem scales_apply (x : Vec Bits S256x2048 .bf16) (r : Fin 256) (z : Fin 1) :
    out0_1 x (ix2 r z) = tokenScale fun k => x (ix2 r k) := by
  unfold out0_1
  rw [View.canon_unit_zero zero2, pay18_apply, pay26_apply]; rfl

/-- THE CODES the body leaves: row `r` holds token `r`'s codes. -/
theorem codes_apply (x : Vec Bits S256x2048 .bf16) (r : Fin 256) (k : Fin 1024) :
    out0_2 x (ix2 r k) = tokenCode (fun k => x (ix2 r k)) k := by
  unfold out0_2
  rw [View.canon_unit_zero zero2, pay1_apply, pay26_apply, pay2_apply, ld_gate, ld_up]; rfl

end Cert.Kernel.Block

end
-- ==== Proof.KernelArrays.lean ====
/-
  WHAT THE KERNEL'S ARRAYS HOLD AFTER THE RUN: the region's two output arrays, 9216 tokens in 36 blocks of 256, hold every
  token's scale and codes; the two host reshapes after the region give them the batch shape, and the one before it takes it
  away from the argument. So the two results hold, at token `(b, s)`, the scale and the codes of the argument's token `(b, s)`.
-/
module

public import proofs.«01_k».proof.Proof.KernelBlock
public import Idealize.ShloMosaic.Lib.Pipeline.Value
public import Idealize.ShloMosaic.Lib.Claim

@[expose] public section

noncomputable section

namespace Cert.Kernel.Arrays

open Cert.Kernel Cert.Kernel.Gen Cert.Quant
open Idealize.ShloMosaic Idealize.ShloMosaic.TcCoe Idealize.SL.Sem Idealize.ShloMosaic.ValueIdx
open Idealize.ShloMosaic.Pipeline (Dat)

variable (m : (ℓ : Loc nD τ sig) → Buf (Elt Bits) ℓ) (ρ : Dev nD → PrngReg)

/-- All tokens' scales, of 9216 tokens one under another. -/
def scales (x : Vec Bits S9216x2048 .bf16) : Vec Bits S9216x1 .f32 := fun i => tokenScale fun k => x (ix2 (i 0) k)
/-- All tokens' codes, likewise. -/
def codes (x : Vec Bits S9216x2048 .bf16) : Vec Bits S9216x1024 .fp8e4m3 := fun i => tokenCode (fun k => x (ix2 (i 0) k)) (i 1)

/-- Point `t` reads the input's block `t`, the columns whole. -/
theorem idx0 : ∀ t : Fin cfg0.N, win0_0.index t (0 : Fin 2) = t.val ∧ win0_0.index t (1 : Fin 2) = 0 :=
  (by decide +kernel : ∀ t : Fin grid0.N, _)
/-- The same of the scales' blocks. -/
theorem idx1 : ∀ t : Fin cfg0.N, win0_1.index t (0 : Fin 2) = t.val ∧ win0_1.index t (1 : Fin 2) = 0 :=
  (by decide +kernel : ∀ t : Fin grid0.N, _)
/-- The same of the codes' blocks. -/
theorem idx2 : ∀ t : Fin cfg0.N, win0_2.index t (0 : Fin 2) = t.val ∧ win0_2.index t (1 : Fin 2) = 0 :=
  (by decide +kernel : ∀ t : Fin grid0.N, _)

/-- Row `r` of block `t` is token `256 t + r`. -/
def token (t : Fin cfg0.N) (r : Fin 256) : Fin 9216 := ⟨t.val * 256 + r.val, by have h : t.val < 36 := t.isLt; omega⟩

/-- The input's block `t` lies at tokens `256 t + r`. -/
theorem emb0 (t : Fin cfg0.N) (r : Fin 256) (k : Fin 2048) : ((cfg0.win 0).blk t).view.emb (ix2 r k) = ix2 (token t r) k := by
  obtain ⟨e0, e1⟩ := idx0 t
  funext a; apply Fin.ext
  match a with
  | ⟨0, _⟩ => exact (show win0_0.index t (0 : Fin 2) * 256 + 1 * r.val = t.val * 256 + r.val by omega)
  | ⟨1, _⟩ => exact (show win0_0.index t (1 : Fin 2) * 2048 + 1 * k.val = k.val by omega)
/-- The scales' block `t` lies at tokens `256 t + r`. -/
theorem emb1 (t : Fin cfg0.N) (r : Fin 256) (z : Fin 1) : ((cfg0.win 1).blk t).view.emb (ix2 r z) = ix2 (token t r) z := by
  obtain ⟨e0, e1⟩ := idx1 t
  funext a; apply Fin.ext
  match a with
  | ⟨0, _⟩ => exact (show win0_1.index t (0 : Fin 2) * 256 + 1 * r.val = t.val * 256 + r.val by omega)
  | ⟨1, _⟩ => exact (show win0_1.index t (1 : Fin 2) * 1 + 1 * z.val = z.val by omega)
/-- The codes' block `t` lies at tokens `256 t + r`. -/
theorem emb2 (t : Fin cfg0.N) (r : Fin 256) (k : Fin 1024) : ((cfg0.win 2).blk t).view.emb (ix2 r k) = ix2 (token t r) k := by
  obtain ⟨e0, e1⟩ := idx2 t
  funext a; apply Fin.ext
  match a with
  | ⟨0, _⟩ => exact (show win0_2.index t (0 : Fin 2) * 256 + 1 * r.val = t.val * 256 + r.val by omega)
  | ⟨1, _⟩ => exact (show win0_2.index t (1 : Fin 2) * 1024 + 1 * k.val = k.val by omega)

/-- The input block at point `t` holds tokens `256 t`, `256 t + 1`, … of the flattened argument. -/
theorem iblk_apply (c : Dev nD) (t : Fin cfg0.N) (r : Fin 256) (k : Fin 2048) :
    iblk m c 0 t (ix2 r k) = V m c main_v0 (ix2 (token t r) k) := by
  show V m c main_v0 (((cfg0.win 0).blk t).view.emb (ix2 r k)) = _
  rw [emb0]

/-- What point `t` writes back is its block of `scales`. -/
theorem flushed1 (c : Dev nD) (t : Fin cfg0.N) :
    (dats m 0 c).flushed 1 t = ((cfg0.win 1).blk t).view.read (Elt Bits) (scales (V m c main_v0)) := by
  show (cfg0.win 1).cut (grid0.coords t) ((dats m 0 c).after 1 t) = _
  rw [after0_1]
  funext j
  have key : ∀ (r : Fin 256) (z : Fin 1), out0_1 (iblk m c 0 t) (ix2 r z)
      = scales (V m c main_v0) (((cfg0.win 1).blk t).view.emb (ix2 r z)) := by
    intro r z
    refine (Block.scales_apply (iblk m c 0 t) r z).trans ?_
    refine Eq.trans ?_ (congrArg (scales (V m c main_v0)) (emb1 t r z)).symm
    exact congrArg tokenScale (funext fun k => iblk_apply m c t r k)
  exact Eq.mpr (congrArg (fun q : S256x1.Idx => out0_1 (iblk m c 0 t) q = scales (V m c main_v0) (((cfg0.win 1).blk t).view.emb q))
    (eq_ix2 (n0 := 256) (n1 := 1) j)) (key (j 0) (j 1))
/-- What point `t` writes back is its block of `codes`. -/
theorem flushed2 (c : Dev nD) (t : Fin cfg0.N) :
    (dats m 0 c).flushed 2 t = ((cfg0.win 2).blk t).view.read (Elt Bits) (codes (V m c main_v0)) := by
  show (cfg0.win 2).cut (grid0.coords t) ((dats m 0 c).after 2 t) = _
  rw [after0_2]
  funext j
  have key : ∀ (r : Fin 256) (k : Fin 1024), out0_2 (iblk m c 0 t) (ix2 r k)
      = codes (V m c main_v0) (((cfg0.win 2).blk t).view.emb (ix2 r k)) := by
    intro r k
    refine (Block.codes_apply (iblk m c 0 t) r k).trans ?_
    refine Eq.trans ?_ (congrArg (codes (V m c main_v0)) (emb2 t r k)).symm
    exact congrArg (tokenCode · k) (funext fun k => iblk_apply m c t r k)
  exact Eq.mpr (congrArg (fun q : S256x1024.Idx => out0_2 (iblk m c 0 t) q = codes (V m c main_v0) (((cfg0.win 2).blk t).view.emb q))
    (eq_ix2 (n0 := 256) (n1 := 1024) j)) (key (j 0) (j 1))

/-- The block that holds a token. -/
def blockOf (i : Fin 9216) : Fin cfg0.N := ⟨i.val / 256, by show i.val / 256 < 36; omega⟩
/-- A token's row in its block. -/
def rowOf (i : Fin 9216) : Fin 256 := ⟨i.val % 256, by omega⟩
/-- Block and row give the token back. -/
theorem token_blockOf (i : Fin 9216) : token (blockOf i) (rowOf i) = i :=
  Fin.ext (show i.val / 256 * 256 + i.val % 256 = i.val by omega)

/-- Every index of the scales' array lies in a block that is written back. -/
theorem covered1 (i : S9216x1.Idx) : ∃ t : Fin cfg0.N, (cfg0.win 1).flush t = true ∧ i ∈ ((cfg0.win 1).blk t).view.set :=
  ⟨blockOf (i 0), flush0_1 _, by
    have h := ((cfg0.win 1).blk (blockOf (i 0))).view.emb_mem_set (ix2 (rowOf (i 0)) (i 1))
    have e : ((cfg0.win 1).blk (blockOf (i 0))).view.emb (ix2 (rowOf (i 0)) (i 1)) = i :=
      (emb1 (blockOf (i 0)) (rowOf (i 0)) (i 1)).trans ((congrArg (ix2 · (i 1)) (token_blockOf (i 0))).trans (eq_ix2 (n0 := 9216) (n1 := 1) i).symm)
    exact Eq.mp (congrArg (· ∈ ((cfg0.win 1).blk (blockOf (i 0))).view.set) e) h⟩
/-- Every index of the codes' array lies in a block that is written back. -/
theorem covered2 (i : S9216x1024.Idx) : ∃ t : Fin cfg0.N, (cfg0.win 2).flush t = true ∧ i ∈ ((cfg0.win 2).blk t).view.set :=
  ⟨blockOf (i 0), flush0_2 _, by
    have h := ((cfg0.win 2).blk (blockOf (i 0))).view.emb_mem_set (ix2 (rowOf (i 0)) (i 1))
    have e : ((cfg0.win 2).blk (blockOf (i 0))).view.emb (ix2 (rowOf (i 0)) (i 1)) = i :=
      (emb2 (blockOf (i 0)) (rowOf (i 0)) (i 1)).trans ((congrArg (ix2 · (i 1)) (token_blockOf (i 0))).trans (eq_ix2 (n0 := 9216) (n1 := 1024) i).symm)
    exact Eq.mp (congrArg (· ∈ ((cfg0.win 2).blk (blockOf (i 0))).view.set) e) h⟩

/-- THE SCALES' ARRAY after the region: the scales of all tokens. -/
theorem final1 (c : Dev nD) : (dats m 0 c).arrAt 1 cfg0.N = scales (V m c main_v0) :=
  (dats m 0 c).arrAt_eq_of_cover 1 (scales (V m c main_v0)) (fun t _ => flushed1 m c t) covered1
/-- THE CODES' ARRAY after the region: the codes of all tokens. -/
theorem final2 (c : Dev nD) : (dats m 0 c).arrAt 2 cfg0.N = codes (V m c main_v0) :=
  (dats m 0 c).arrAt_eq_of_cover 2 (codes (V m c main_v0)) (fun t _ => flushed2 m c t) covered2

/-! ## The host reshapes around the region -/

/-- The region finds the argument with its two leading axes merged. -/
theorem V_main_v0 (c : Dev nD) : V m c main_v0 = shapeCast S9216x2048 (m ((c : Thread nD τ).loc main_arg0)) shapeCasts_S3x3072x2048_S9216x2048 := by
  show StableHlo.after hostOps0 (fun b => m (c, b)) (Proc.tc.devRef main_v0) = _
  unfold hostOps0
  rw [StableHlo.after_cons, StableHlo.after_nil, StableHlo.reshape_result]
  rfl

/-- The first result: the scales' array with the token axis split again. -/
theorem tail_v2 (c : Dev nD) : Pipeline.afterTail₀ cfgs (dats m) 0 (V0 m) [hostOps1] c main_v2
    = shapeCast S3x3072x1 ((dats m 0 c).arrAt 1 cfg0.N) shapeCasts_S9216x1_S3x3072x1 := by
  show StableHlo.after hostOps1 (Pipeline.withArrays spec0 c (V0 m c) fun w => (dats m 0 c).arrAt w cfg0.N) (Proc.tc.devRef main_v2) = _
  unfold hostOps1
  rw [StableHlo.after_cons, StableHlo.after_cons, StableHlo.after_nil, StableHlo.reshape_result_ne, StableHlo.reshape_result]
  · show shapeCast S3x3072x1 (Pipeline.withArrays spec0 c (V0 m c) (fun w => (dats m 0 c).arrAt w cfg0.N) (Proc.devRef .tc (Pipeline.arrRef spec0 1))) _ = _
    exact congrArg (shapeCast S3x3072x1 · shapeCasts_S9216x1_S3x3072x1) (Pipeline.withArrays_arr spec0 launch0.win.arr_inj c (V0 m c) (fun w => (dats m 0 c).arrAt w cfg0.N) 1)
  · decide
/-- The second result: the codes' array with the token axis split again. -/
theorem tail_v3 (c : Dev nD) : Pipeline.afterTail₀ cfgs (dats m) 0 (V0 m) [hostOps1] c main_v3
    = shapeCast S3x3072x1024 ((dats m 0 c).arrAt 2 cfg0.N) shapeCasts_S9216x1024_S3x3072x1024 := by
  show StableHlo.after hostOps1 (Pipeline.withArrays spec0 c (V0 m c) fun w => (dats m 0 c).arrAt w cfg0.N) (Proc.tc.devRef main_v3) = _
  unfold hostOps1
  rw [StableHlo.after_cons, StableHlo.after_cons, StableHlo.after_nil, StableHlo.reshape_result, StableHlo.reshape_result_ne]
  · show shapeCast S3x3072x1024 (Pipeline.withArrays spec0 c (V0 m c) (fun w => (dats m 0 c).arrAt w cfg0.N) (Proc.devRef .tc (Pipeline.arrRef spec0 2))) _ = _
    exact congrArg (shapeCast S3x3072x1024 · shapeCasts_S9216x1024_S3x3072x1024) (Pipeline.withArrays_arr spec0 launch0.win.arr_inj c (V0 m c) (fun w => (dats m 0 c).arrAt w cfg0.N) 2)
  · decide

/-- Token `(b, s)` among the 9216. -/
def flat (b : Fin 3) (s : Fin 3072) : Fin 9216 := ⟨b.val * 3072 + s.val, by omega⟩

/-- The region's input at token `(b, s)` is the argument's there. -/
theorem V_main_v0_apply (c : Dev nD) (b : Fin 3) (s : Fin 3072) (k : Fin 2048) :
    V m c main_v0 (ix2 (flat b s) k) = m ((c : Thread nD τ).loc main_arg0) (ix3 b s k) := by
  rw [V_main_v0]
  refine shapeCast_apply (s := S3x3072x2048) (t := S9216x2048) _ _ (ix2 (flat b s) k) (ix3 b s k) ?_
  rw [Shape.rowMajor_val_three, Shape.rowMajor_val_two]
  rfl

/-- THE KERNEL'S FIRST RESULT at token `(b, s)`: the scale of the argument's token. -/
theorem scales_result (c : Dev nD) (b : Fin 3) (s : Fin 3072) (z : Fin 1) :
    Pipeline.afterTail₀ cfgs (dats m) 0 (V0 m) [hostOps1] c main_v2 (ix3 b s z)
      = tokenScale fun k => m ((c : Thread nD τ).loc main_arg0) (ix3 b s k) := by
  rw [tail_v2, final1]
  refine (shapeCast_apply (s := S9216x1) (t := S3x3072x1) _ _ (ix3 b s z) (ix2 (flat b s) z) ?_).trans ?_
  · rw [Shape.rowMajor_val_three, Shape.rowMajor_val_two]
    rfl
  · exact congrArg tokenScale (funext fun k => V_main_v0_apply m c b s k)

/-- THE KERNEL'S SECOND RESULT at token `(b, s)`, column `k`: the code of the argument's token there. -/
theorem codes_result (c : Dev nD) (b : Fin 3) (s : Fin 3072) (k : Fin 1024) :
    Pipeline.afterTail₀ cfgs (dats m) 0 (V0 m) [hostOps1] c main_v3 (ix3 b s k)
      = tokenCode (fun k => m ((c : Thread nD τ).loc main_arg0) (ix3 b s k)) k := by
  rw [tail_v3, final2]
  refine (shapeCast_apply (s := S9216x1024) (t := S3x3072x1024) _ _ (ix3 b s k) (ix2 (flat b s) k) ?_).trans ?_
  · rw [Shape.rowMajor_val_three, Shape.rowMajor_val_two]
    rfl
  · exact congrArg (tokenCode · k) (funext fun k => V_main_v0_apply m c b s k)

/-- The kernel's two results and its argument at every final state. -/
theorem run : θ_run defs (onTc (τ := τ) (main (F := Bits))) ⟨m, fun _ => 0, ρ⟩ fun r => ∀ c : Dev nD,
      r.2.mem ((c.tc : Thread nD τ).loc main_v2) = Pipeline.afterTail₀ cfgs (dats m) 0 (V0 m) [hostOps1] c main_v2
      ∧ r.2.mem ((c.tc : Thread nD τ).loc main_v3) = Pipeline.afterTail₀ cfgs (dats m) 0 (V0 m) [hostOps1] c main_v3
      ∧ r.2.mem ((c.tc : Thread nD τ).loc main_arg0) = m ((c.tc : Thread nD τ).loc main_arg0) :=
  (θ_run defs _ _).mono (fun _ h c =>
    ⟨(h c).2 main_v2 (Pipeline.mem_restRefs_of main_v2 (by decide) (by decide)),
      (h c).2 main_v3 (Pipeline.mem_restRefs_of main_v3 (by decide) (by decide)),
      ((h c).2 main_arg0 (Pipeline.mem_restRefs_of main_arg0 (by decide) (by decide))).trans (W_main_arg0 m (dats m) c)⟩)
    (run_main m ρ)

end Cert.Kernel.Arrays

end
-- ==== Proof.ReferenceValue.lean ====
/-
  WHAT THE REFERENCE COMPUTES: its two results, token by token, are the token's scale and its codes (Scalar.lean).
-/
module

public import proofs.«01_k».proof.Proof.Gen.Reference.Value
public import proofs.«01_k».proof.Proof.Scalar
public import Idealize.ShloMosaic.PureOps.BitExact.Laws
public import Idealize.ShloMosaic.PureOps.Reduce
public import Idealize.ShloMosaic.Lib.Pipeline.Value
public import Idealize.ShloMosaic.Lib.ValueIdx

@[expose] public section

noncomputable section

namespace Cert.Reference.Tokens

open Cert.Reference Cert.Reference.Gen Cert.Quant
open Idealize.ShloMosaic Idealize.ShloMosaic.ValueIdx

/-- The SwiGLU payload at token `(b, s)`, column `k`: the token's hidden entry. -/
theorem pay2_apply (x : Vec Bits S3x3072x2048 .bf16) (b : Fin 3) (s : Fin 3072) (k : Fin 1024) :
    k0_pay2 x (ix3 b s k) = hidden (fun k => x (ix3 b s k)) k := by
  unfold k0_pay2
  have hg : extractStridedSlice S3x3072x1024 ![0, 0, 0] x slices_S3x3072x2048_o0_0_0_S3x3072x1024 (ix3 b s k)
      = x (ix3 b s ⟨k.val, by omega⟩) := by
    refine extractStridedSlice_apply _ x _ _ _ fun a => ?_
    match a with
    | ⟨0, _⟩ => show b.val = 0 + b.val; omega
    | ⟨1, _⟩ => show s.val = 0 + s.val; omega
    | ⟨2, _⟩ => show k.val = 0 + k.val; omega
  have hu : extractStridedSlice S3x3072x1024 ![0, 0, 1024] x slices_S3x3072x2048_o0_0_1024_S3x3072x1024 (ix3 b s k)
      = x (ix3 b s ⟨1024 + k.val, by omega⟩) := by
    refine extractStridedSlice_apply _ x _ _ _ fun a => ?_
    match a with
    | ⟨0, _⟩ => show b.val = 0 + b.val; omega
    | ⟨1, _⟩ => show s.val = 0 + s.val; omega
    | ⟨2, _⟩ => rfl
  show swiglu (extractStridedSlice S3x3072x1024 ![0, 0, 0] x slices_S3x3072x2048_o0_0_0_S3x3072x1024 (ix3 b s k))
    (extractStridedSlice S3x3072x1024 ![0, 0, 1024] x slices_S3x3072x2048_o0_0_1024_S3x3072x1024 (ix3 b s k)) = _
  rw [hg, hu]; rfl

/-- A maximum over the last axis, at token `(b, s)`: the fold of `maximumf` over the token's entries. -/
theorem rowMax_apply (x : FVec Bits S3x3072x1024 .f32) (hφ : FKind.Formats .f32)
    (hacc : (0xFF800000#32 : BitVec FTy.f32.bits) = FKind.maximumf.neutral .f32 hφ) (b : Fin 3) (s : Fin 3072) :
    multiReduction (F := Bits) .maximumf [2] S3x3072 x 0xFF800000#32 reduces_S3x3072x1024_S3x3072 hφ hacc (ix2 b s)
      = (Finset.univ : Finset (Fin 1024)).fold FloatOps.maximumf (const32 0xFF800000#32) (fun k => x (ix3 b s k)) := by
  rw [multiReduction_maximumf_eq_fold]
  refine (Shape.Reduces.fold_filter_drop_single (s := S3x3072x1024) (t := S3x3072) (a := (2 : Fin S3x3072x1024.rank))
    reduces_S3x3072x1024_S3x3072 FloatOps.maximumf (FloatOps.ofBits .f32 0xFF800000#32) x (ix2 b s)).trans ?_
  refine congrArg (Finset.fold FloatOps.maximumf (const32 0xFF800000#32) · Finset.univ)
    (funext fun k => congrArg x (funext fun c => Fin.ext ?_))
  match c with
  | ⟨0, _⟩ => rfl
  | ⟨1, _⟩ => rfl
  | ⟨2, _⟩ => rfl

/-- The maximum of the magnitudes, at token `(b, s)`. -/
theorem pay3_apply (x : Vec Bits S3x3072x2048 .bf16) (b : Fin 3) (s : Fin 3072) (z : Fin 1) :
    k0_pay3 x (ix3 b s z) = amax (hidden fun k => x (ix3 b s k)) := by
  unfold k0_pay3
  refine (shapeCast_apply _ shapeCasts_S3x3072_S3x3072x1 (ix3 b s z) (ix2 b s) ?_).trans ?_
  · rw [Shape.rowMajor_val_two, Shape.rowMajor_val_three]
    show b.val * 3072 + s.val = (b.val * 3072 + s.val) * 1 + z.val
    omega
  refine (rowMax_apply _ _ _ b s).trans ?_
  unfold amax
  refine congrArg (Finset.fold FloatOps.maximumf (const32 0xFF800000#32) · Finset.univ) (funext fun k => ?_)
  exact congrArg FloatOps.absf (pay2_apply x b s k)

/-- The same, as the run names it. -/
theorem pay28_apply (x : Vec Bits S3x3072x2048 .bf16) (b : Fin 3) (s : Fin 3072) (z : Fin 1) :
    k0_pay28 x (ix3 b s z) = amax (hidden fun k => x (ix3 b s k)) := by
  unfold k0_pay28
  rw [View.ld_unit_zero (S := S3x3072x2048) Cert.Reference.Value.hz0 _ x, pay3_apply]

/-- The scale's payload at an index, from the maximum there. -/
theorem pay20_apply (x : Vec Bits S3x3072x2048 .bf16) (i : S3x3072x1.Idx) :
    Cert.Reference.Value.G1 x i = scale (k0_pay28 x i) := rfl

/-- The codes' payload at token `(b, s)`, column `k`, of any hidden vector. -/
theorem pay1_apply (h : FVec Bits S3x3072x1024 .f32) (x : Vec Bits S3x3072x2048 .bf16) (b : Fin 3) (s : Fin 3072) (k : Fin 1024) :
    k0_pay1 h (k0_pay21 (F := Bits)) (k0_pay22 (F := Bits)) (k0_pay24 (F := Bits)) (k0_pay25 (F := Bits)) (k0_pay26 (F := Bits))
      (k0_pay27 (F := Bits) (k0_pay11 (k0_pay28 x) (k0_pay29 x) (k0_pay30 x) (k0_pay31 x))) (ix3 b s k)
      = code (h (ix3 b s k)) (k0_pay28 x (ix3 b s 0)) := by
  have hb : ∀ v : FVec Bits S3x3072x1 .f32,
      broadcastTo S3x3072x1024 v broadcasts_S3x3072x1_S3x3072x1024 (ix3 b s k) = v (ix3 b s 0) := by
    intro v
    refine broadcastTo_apply v _ _ _ fun a => ?_
    match a with
    | ⟨0, _⟩ => rfl
    | ⟨1, _⟩ => rfl
    | ⟨2, _⟩ => rfl
  unfold k0_pay1
  show FloatOps.truncf .fp8e4m3 _ (FloatOps.minimumf _ (FloatOps.maximumf _ (FloatOps.mulf _ (broadcastTo S3x3072x1024 _ _ (ix3 b s k))))) = _
  rw [hb]
  rfl

/-- THE REFERENCE'S SCALES: at token `(b, s)` the token's scale. -/
theorem scales_apply (x : Vec Bits S3x3072x2048 .bf16) (b : Fin 3) (s : Fin 3072) (z : Fin 1) :
    Cert.Reference.Value.G1 x (ix3 b s z) = tokenScale fun k => x (ix3 b s k) := by
  rw [pay20_apply, pay28_apply]; rfl

/-- THE REFERENCE'S CODES: at token `(b, s)`, column `k`, the token's code. -/
theorem codes_apply (x : Vec Bits S3x3072x2048 .bf16) (b : Fin 3) (s : Fin 3072) (k : Fin 1024) :
    Cert.Reference.Value.G2 x (ix3 b s k) = tokenCode (fun k => x (ix3 b s k)) k := by
  refine (pay1_apply (k0_pay2 x) x b s k).trans ?_
  rw [pay28_apply, pay2_apply]; rfl

end Cert.Reference.Tokens

end
-- ==== Proof.lean ====
module

public import proofs.«01_k».proof.Defs
public import proofs.«01_k».proof.Proof.Gen.Kernel
public import proofs.«01_k».proof.Proof.Gen.Kernel.Frame
public import proofs.«01_k».proof.Proof.Gen.Reference
public import proofs.«01_k».proof.Proof.Gen.Reference.Value
public import proofs.«01_k».proof.Proof.KernelArrays
public import proofs.«01_k».proof.Proof.ReferenceValue
public import Idealize.ShloMosaic.Adequacy
public import Idealize.ShloMosaic.Init

@[expose] public section

noncomputable section

namespace Cert.Proof

open Idealize.ShloMosaic Idealize.SL.Sem Idealize.ShloMosaic.ValueIdx Cert.Kernel

/-- The kernel's scales are the reference's, of one argument. -/
theorem scales_eq (m : (ℓ : Loc nD τ sig) → Buf (Elt Bits) ℓ) (c : Dev nD) :
    Pipeline.afterTail₀ cfgs (Gen.dats m) 0 (Gen.V0 m) [Gen.hostOps1] c main_v2
      = Cert.Reference.Value.G1 (F := Bits) (m ((c.tc : Thread nD τ).loc main_arg0)) := by
  have key : ∀ (b : Fin 3) (s : Fin 3072) (z : Fin 1),
      Pipeline.afterTail₀ cfgs (Gen.dats m) 0 (Gen.V0 m) [Gen.hostOps1] c main_v2 (ix3 b s z)
        = Cert.Reference.Value.G1 (F := Bits) (m ((c.tc : Thread nD τ).loc main_arg0)) (ix3 b s z) := fun b s z =>
    (Arrays.scales_result m c b s z).trans (Cert.Reference.Tokens.scales_apply _ b s z).symm
  funext i
  exact Eq.mpr (congrArg (fun q : S3x3072x1.Idx =>
    Pipeline.afterTail₀ cfgs (Gen.dats m) 0 (Gen.V0 m) [Gen.hostOps1] c main_v2 q
      = Cert.Reference.Value.G1 (F := Bits) (m ((c.tc : Thread nD τ).loc main_arg0)) q)
    (eq_ix3 (n0 := 3) (n1 := 3072) (n2 := 1) i)) (key (i 0) (i 1) (i 2))

/-- The kernel's codes are the reference's, of one argument. -/
theorem codes_eq (m : (ℓ : Loc nD τ sig) → Buf (Elt Bits) ℓ) (c : Dev nD) :
    Pipeline.afterTail₀ cfgs (Gen.dats m) 0 (Gen.V0 m) [Gen.hostOps1] c main_v3
      = Cert.Reference.Value.G2 (F := Bits) (m ((c.tc : Thread nD τ).loc main_arg0)) := by
  have key : ∀ (b : Fin 3) (s : Fin 3072) (k : Fin 1024),
      Pipeline.afterTail₀ cfgs (Gen.dats m) 0 (Gen.V0 m) [Gen.hostOps1] c main_v3 (ix3 b s k)
        = Cert.Reference.Value.G2 (F := Bits) (m ((c.tc : Thread nD τ).loc main_arg0)) (ix3 b s k) := fun b s k =>
    (Arrays.codes_result m c b s k).trans (Cert.Reference.Tokens.codes_apply _ b s k).symm
  funext i
  exact Eq.mpr (congrArg (fun q : S3x3072x1024.Idx =>
    Pipeline.afterTail₀ cfgs (Gen.dats m) 0 (Gen.V0 m) [Gen.hostOps1] c main_v3 q
      = Cert.Reference.Value.G2 (F := Bits) (m ((c.tc : Thread nD τ).loc main_arg0)) q)
    (eq_ix3 (n0 := 3) (n1 := 3072) (n2 := 1024) i)) (key (i 0) (i 1) (i 2))

/-- Both programs, from memories that agree on the argument, end with the same scales and the same codes. -/
theorem bitexact : Cert.bitexact_Kernel_Reference (hKernel := Cert.Kernel.Gen.facts) (hReference := Cert.Reference.Gen.facts) := by
  intro m g m' g' _ hx
  refine ⟨fun c => Pipeline.afterTail₀ cfgs (Gen.dats m) 0 (Gen.V0 m) [Gen.hostOps1] c main_v2,
    fun c => Pipeline.afterTail₀ cfgs (Gen.dats m) 0 (Gen.V0 m) [Gen.hostOps1] c main_v3, Arrays.run m g, ?_⟩
  refine (θ_run _ _ _).mono (fun r h c => ⟨?_, ?_, (h c).2.2⟩) (Cert.Reference.Value.run (F := Bits) m' g')
  · refine (h c).1.trans ?_
    rw [hx c]
    exact (scales_eq m c).symm
  · refine (h c).2.1.trans ?_
    rw [hx c]
    exact (codes_eq m c).symm

/-- The certificate's claim: both frames and the bit-exact equality. -/
theorem claim : Cert.Claim := ⟨Cert.Kernel.Gen.facts, Cert.Reference.Gen.facts,
  fun m ρ _ => Cert.Kernel.Gen.frame m ρ, fun m ρ _ => Cert.Reference.Gen.frame m ρ, bitexact⟩

end Cert.Proof

end
